-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x128 : Shape := ⟨2, ![4096, 128]⟩
abbrev S4096x4096 : Shape := ⟨2, ![4096, 4096]⟩
abbrev S4096x4 : Shape := ⟨2, ![4096, 4]⟩
abbrev S_ : Shape := ⟨0, ![]⟩
abbrev S128x128 : Shape := ⟨2, ![128, 128]⟩
abbrev S128 : Shape := ⟨1, ![128]⟩
abbrev S256x128 : Shape := ⟨2, ![256, 128]⟩

class Facts : Prop where
  bcast_S_S4096x128 : S_.BroadcastsInDim S4096x128 (![] : Fin 0 → Fin S4096x128.rank)
  bcast_S_S4096x4 : S_.BroadcastsInDim S4096x4 (![] : Fin 0 → Fin S4096x4.rank)
  bcast_S_S128x128 : S_.BroadcastsInDim S128x128 (![] : Fin 0 → Fin S128x128.rank)
  bcast_S_S256x128 : S_.BroadcastsInDim S256x128 (![] : Fin 0 → Fin S256x128.rank)
  bcast_S_S128 : S_.BroadcastsInDim S128 (![] : Fin 0 → Fin S128.rank)

variable [Facts]

def fn_part1 {F : FTy → Type} [FloatOps F] (main_arg9 : FVec F S128 .f32) (main_arg10 : FVec F S_ .f32) (main_arg12 : FVec F S128 .f32) (main_v2 : IVec S4096x128 1) (main_v5 : IVec S4096x4 1) (main_v8 : IVec S128x128 1) (main_v11 : IVec S256x128 1) (main_v14 : IVec S128 1) (main_v17 : IVec S128x128 1) : IVec S4096x128 1 × IVec S4096x4 1 × IVec S128x128 1 × IVec S256x128 1 × IVec S128 1 × IVec S128x128 1 × IVec S128 1 × IVec S_ 1 × IVec S128 1 :=
  let main_v18 : FVec F S128 .f32 := Host.absf main_arg9
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S_ .f32 := Host.absf main_arg10
  let main_cst_6 : FVec F S_ .f32 := constant S_ .f32 0x7F800000#32
  let main_v22 : IVec S_ 1 := cmpf .olt main_v21 main_cst_6
  let main_v23 : FVec F S128 .f32 := Host.absf main_arg12
  let main_cst_7 : FVec F S_ .f32 := constant S_ .f32 0x7F800000#32
  let main_v24 : FVec F S128 .f32 := broadcastInDim S128 ![] bcast_S_S128 main_cst_7
  let main_v25 : IVec S128 1 := cmpf .olt main_v23 main_v24
  (main_v2, main_v5, main_v8, main_v11, main_v14, main_v17, main_v20, main_v22, main_v25)

def fn {F : FTy → Type} [FloatOps F] (main_arg0 : FVec F S4096x128 .f32) (main_arg1 : FVec F S4096x4096 .f32) (main_arg2 : FVec F S4096x4 .f32) (main_arg3 : IVec S_ 32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S_ .f32) (main_arg11 : FVec F S128x128 .f32) (main_arg12 : FVec F S128 .f32) : IVec S4096x128 1 × IVec S4096x4 1 × IVec S128x128 1 × IVec S256x128 1 × IVec S128 1 × IVec S128x128 1 × IVec S128 1 × IVec S_ 1 × IVec S128 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_v3 : FVec F S4096x4 .f32 := Host.absf main_arg2
  let main_cst_0 : FVec F S_ .f32 := constant S_ .f32 0x7F800000#32
  let main_v4 : FVec F S4096x4 .f32 := broadcastInDim S4096x4 ![] bcast_S_S4096x4 main_cst_0
  let main_v5 : IVec S4096x4 1 := cmpf .olt main_v3 main_v4
  let main_v6 : FVec F S128x128 .f32 := Host.absf main_arg4
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_v12 : FVec F S128 .f32 := Host.absf main_arg7
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128 .f32 := Host.absf main_arg8
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg9 main_arg10 main_arg12 main_v2 main_v5 main_v8 main_v11 main_v14 main_v17
-- ==== Kernel.lean ====
abbrev S4096x128 : Shape := ⟨2, ![4096, 128]⟩
abbrev S4096x4096 : Shape := ⟨2, ![4096, 4096]⟩
abbrev S4096x4 : Shape := ⟨2, ![4096, 4]⟩
abbrev S_ : Shape := ⟨0, ![]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S4x128 : Shape := ⟨2, ![4, 128]⟩
abbrev S4x512 : Shape := ⟨2, ![4, 512]⟩
abbrev S1 : Shape := ⟨1, ![1]⟩
abbrev S128x384 : Shape := ⟨2, ![128, 384]⟩
abbrev S512x4096 : Shape := ⟨2, ![512, 4096]⟩
abbrev S512x128 : Shape := ⟨2, ![512, 128]⟩
abbrev S512x4 : Shape := ⟨2, ![512, 4]⟩
abbrev S512x512 : Shape := ⟨2, ![512, 512]⟩
abbrev S512x384 : Shape := ⟨2, ![512, 384]⟩

abbrev nBuf : Space → Nat
  | .hbm => 24
  | .vmem => 16
  | .smem => 1
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4, .f32⟩
  | .hbm, ⟨3, _⟩ => ⟨S_, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S4x128, .f32⟩
  | .hbm, ⟨18, _⟩ => ⟨S4x512, .f32⟩
  | .hbm, ⟨19, _⟩ => ⟨S1, .f32⟩
  | .hbm, ⟨20, _⟩ => ⟨S128x128, .f32⟩
  | .hbm, ⟨21, _⟩ => ⟨S128x128, .f32⟩
  | .hbm, ⟨22, _⟩ => ⟨S128x384, .f32⟩
  | .hbm, ⟨23, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S512x128, .f32⟩
  | .local _ .vmem, ⟨4, _⟩ => ⟨S512x128, .f32⟩
  | .local _ .vmem, ⟨5, _⟩ => ⟨S512x4, .f32⟩
  | .local _ .vmem, ⟨6, _⟩ => ⟨S512x4, .f32⟩
  | .local _ .vmem, ⟨7, _⟩ => ⟨S4x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x384, .f32⟩
  | .local _ .vmem, ⟨12, _⟩ => ⟨S4x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .smem, ⟨0, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v5 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x128 : Shape := ⟨2, ![4096, 128]⟩
abbrev S4096x4096 : Shape := ⟨2, ![4096, 4096]⟩
abbrev S4096x4 : Shape := ⟨2, ![4096, 4]⟩
abbrev S_ : Shape := ⟨0, ![]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S4096x256 : Shape := ⟨2, ![4096, 256]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4, .f32⟩
  | .hbm, ⟨3, _⟩ => ⟨S_, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128, .f32⟩
  | .hbm, ⟨13, _⟩ => ⟨S4096x128, .f32⟩
  | .hbm, ⟨14, _⟩ => ⟨S4096x128, .f32⟩
  | .hbm, ⟨15, _⟩ => ⟨S1x128, .f32⟩
  | .hbm, ⟨16, _⟩ => ⟨S4096x128, .f32⟩
  | .hbm, ⟨17, _⟩ => ⟨S4096x128, .f32⟩
  | .hbm, ⟨18, _⟩ => ⟨S4096x256, .f32⟩
  | .hbm, ⟨19, _⟩ => ⟨S4096x128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S1x128, .f32⟩
  | .hbm, ⟨34, _⟩ => ⟨S4096x128, .f32⟩
  | .hbm, ⟨35, _⟩ => ⟨S4096x128, .f32⟩
  | .hbm, ⟨36, _⟩ => ⟨S4096x1, .f32⟩
  | .hbm, ⟨37, _⟩ => ⟨S4096x128, .f32⟩
  | .hbm, ⟨38, _⟩ => ⟨S4096x128, .f32⟩
  | .hbm, ⟨39, _⟩ => ⟨S4096x1, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x1, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x1, .f32⟩
  | .hbm, ⟨48, _⟩ => ⟨S4096x128, .f32⟩
  | .hbm, ⟨49, _⟩ => ⟨S4096x128, .f32⟩
  | .hbm, ⟨50, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Block.lean ====
/- What the kernel's body leaves behind at one grid point.

   The kernel works one point behind itself: at point `t < 8` it stores the product of the `t`-th row block of the
   adjacency matrix with the node features in a scratch buffer, and at point `t ≥ 1` it finishes the row block `t - 1`
   from the product the point before left in that buffer. This module names the finished block (`tile`) as a function of
   the blocks the point reads, shows that this is what the body leaves in the output's staging buffer, and so says what
   each point from 1 on writes back (`flushed_eq`). -/
module

public import proofs.«01_k».proof.Proof.Gen.KernelIdeal.Value
public import Idealize.ShloMosaic.Lib.Tactic

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]

/-- The offset `![0, 0]` of a whole-buffer access is the zero function. -/
theorem zero2 : (![0, 0] : Fin 2 → Nat) = fun _ => 0 := funext fun a => by fin_cases a <;> rfl

/-- The finished row block, from what a point reads: `eps`, the block `xt` of the node features, the block `g` of the gates,
    the table `sel` that spreads the gates over the columns, the weight matrices, the four bias rows `bm`, and the product
    `ax` of the adjacency block with the node features. -/
def tile (eps : Vec F S1 .f32) (xt : Vec F S512x128 .f32) (g : Vec F S512x4 .f32) (sel : Vec F S4x512 .f32)
    (w0 w1 wg : Vec F S128x128 .f32) (wa : Vec F S128x384 .f32) (bm : Vec F S4x128 .f32) (ax : Vec F S512x128 .f32) :
    Vec F S512x128 .f32 :=
  k0_pay1 (k0_pay4 g sel) (k0_pay5 g sel) (k0_pay6 g sel) (k0_pay7 g sel) (k0_pay8 ax g sel wa)
    (k0_pay9 xt g sel w0 w1 (View.ld eps (Rect.unit ![0] ![1] inb_S1_S1_0) (Shape.Idx.first (by decide))) wg)
    (View.ld bm (Rect.unit ![0, 0] ![1, 128] inb_S4x128_S1x128_0_0))
    (View.ld bm (Rect.unit ![1, 0] ![1, 128] inb_S4x128_S1x128_1_0))
    (View.ld bm (Rect.unit ![2, 0] ![1, 128] inb_S4x128_S1x128_2_0))
    (View.ld bm (Rect.unit ![3, 0] ![1, 128] inb_S4x128_S1x128_3_0))

/-- At the first point the scratch buffer ends holding the product of the adjacency block with the node features. -/
theorem scratch_A (c : Dev nD) (i : grid0.Coords)
    (a1 : Memref sig .tc .smem S1 .f32) (h1 : a1.IsWhole)
    (a2 : Memref sig .tc .vmem S512x4096 .f32) (h2 : a2.IsWhole)
    (a3 : Memref sig .tc .vmem S4096x128 .f32) (h3 : a3.IsWhole)
    (a4 : Memref sig .tc .vmem S512x128 .f32) (h4 : a4.IsWhole)
    (a5 : Memref sig .tc .vmem S512x4 .f32) (h5 : a5.IsWhole)
    (a6 : Memref sig .tc .vmem S4x512 .f32) (h6 : a6.IsWhole)
    (a7 : Memref sig .tc .vmem S128x128 .f32) (h7 : a7.IsWhole)
    (a8 : Memref sig .tc .vmem S128x128 .f32) (h8 : a8.IsWhole)
    (a9 : Memref sig .tc .vmem S128x128 .f32) (h9 : a9.IsWhole)
    (a10 : Memref sig .tc .vmem S128x384 .f32) (h10 : a10.IsWhole)
    (a11 : Memref sig .tc .vmem S4x128 .f32) (h11 : a11.IsWhole)
    (a12 : Memref sig .tc .vmem S512x128 .f32) (h12 : a12.IsWhole)
    (a13 : Memref sig .tc .vmem S512x128 .f32) (h13 : a13.IsWhole)
    (hc0 : ¬cond0_0 i) (hc1 : cond0_1 i)
    (eps : Vec F S1 .f32) (adj : Vec F S512x4096 .f32) (x : Vec F S4096x128 .f32) (xt : Vec F S512x128 .f32) (g : Vec F S512x4 .f32)
    (sel : Vec F S4x512 .f32) (w0 : Vec F S128x128 .f32) (w1 : Vec F S128x128 .f32) (wg : Vec F S128x128 .f32)
    (wa : Vec F S128x384 .f32) (bm : Vec F S4x128 .f32) :
    sout0_A_0 c i a1 h1 a2 h2 a3 h3 a4 h4 a5 h5 a6 h6 a7 h7 a8 h8 a9 h9 a10 h10 a11 h11 a12 h12 a13 h13 hc0 hc1 eps adj x xt g sel w0 w1 wg wa bm = k0_pay2 adj x := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 eps adj x xt g sel w0 w1 wg wa bm)]
  unfold kernelRun0_A
  dsimp only
  sl_unfold_words
  rw [View.canon_unit_zero zero2]
  simp only [View.readAt_eq_ld, h2.read_unread, h3.read_unread, View.ld_unit_zero (S := S512x4096) zero2,
    View.ld_unit_zero (S := S4096x128) zero2]

/-- At a point from 1 to 7 it does so too, whatever it held before. -/
theorem scratch_B (c : Dev nD) (i : grid0.Coords)
    (a1 : Memref sig .tc .smem S1 .f32) (h1 : a1.IsWhole)
    (a2 : Memref sig .tc .vmem S512x4096 .f32) (h2 : a2.IsWhole)
    (a3 : Memref sig .tc .vmem S4096x128 .f32) (h3 : a3.IsWhole)
    (a4 : Memref sig .tc .vmem S512x128 .f32) (h4 : a4.IsWhole)
    (a5 : Memref sig .tc .vmem S512x4 .f32) (h5 : a5.IsWhole)
    (a6 : Memref sig .tc .vmem S4x512 .f32) (h6 : a6.IsWhole)
    (a7 : Memref sig .tc .vmem S128x128 .f32) (h7 : a7.IsWhole)
    (a8 : Memref sig .tc .vmem S128x128 .f32) (h8 : a8.IsWhole)
    (a9 : Memref sig .tc .vmem S128x128 .f32) (h9 : a9.IsWhole)
    (a10 : Memref sig .tc .vmem S128x384 .f32) (h10 : a10.IsWhole)
    (a11 : Memref sig .tc .vmem S4x128 .f32) (h11 : a11.IsWhole)
    (a12 : Memref sig .tc .vmem S512x128 .f32) (h12 : a12.IsWhole)
    (a13 : Memref sig .tc .vmem S512x128 .f32) (h13 : a13.IsWhole)
    (hc0 : cond0_0 i) (hc1 : cond0_1 i)
    (eps : Vec F S1 .f32) (adj : Vec F S512x4096 .f32) (x : Vec F S4096x128 .f32) (xt : Vec F S512x128 .f32) (g : Vec F S512x4 .f32)
    (sel : Vec F S4x512 .f32) (w0 : Vec F S128x128 .f32) (w1 : Vec F S128x128 .f32) (wg : Vec F S128x128 .f32)
    (wa : Vec F S128x384 .f32) (bm : Vec F S4x128 .f32) (ax : Vec F S512x128 .f32) :
    sout0_B_0 c i a1 h1 a2 h2 a3 h3 a4 h4 a5 h5 a6 h6 a7 h7 a8 h8 a9 h9 a10 h10 a11 h11 a12 h12 a13 h13 hc0 hc1 eps adj x xt g sel w0 w1 wg wa bm ax = k0_pay2 adj x := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc0 hc1 eps adj x xt g sel w0 w1 wg wa bm ax)]
  unfold kernelRun0_B
  dsimp only
  sl_unfold_words
  rw [View.canon_unit_zero zero2]
  simp only [View.readAt_eq_ld, h2.read_unread, h3.read_unread, View.ld_unit_zero (S := S512x4096) zero2,
    View.ld_unit_zero (S := S4096x128) zero2]

/-- At a point from 1 to 7 the output's staging buffer ends holding the finished block, made with the scratch buffer's old contents. -/
theorem out_B (c : Dev nD) (i : grid0.Coords)
    (a1 : Memref sig .tc .smem S1 .f32) (h1 : a1.IsWhole)
    (a2 : Memref sig .tc .vmem S512x4096 .f32) (h2 : a2.IsWhole)
    (a3 : Memref sig .tc .vmem S4096x128 .f32) (h3 : a3.IsWhole)
    (a4 : Memref sig .tc .vmem S512x128 .f32) (h4 : a4.IsWhole)
    (a5 : Memref sig .tc .vmem S512x4 .f32) (h5 : a5.IsWhole)
    (a6 : Memref sig .tc .vmem S4x512 .f32) (h6 : a6.IsWhole)
    (a7 : Memref sig .tc .vmem S128x128 .f32) (h7 : a7.IsWhole)
    (a8 : Memref sig .tc .vmem S128x128 .f32) (h8 : a8.IsWhole)
    (a9 : Memref sig .tc .vmem S128x128 .f32) (h9 : a9.IsWhole)
    (a10 : Memref sig .tc .vmem S128x384 .f32) (h10 : a10.IsWhole)
    (a11 : Memref sig .tc .vmem S4x128 .f32) (h11 : a11.IsWhole)
    (a12 : Memref sig .tc .vmem S512x128 .f32) (h12 : a12.IsWhole)
    (a13 : Memref sig .tc .vmem S512x128 .f32) (h13 : a13.IsWhole)
    (hc0 : cond0_0 i) (hc1 : cond0_1 i)
    (eps : Vec F S1 .f32) (adj : Vec F S512x4096 .f32) (x : Vec F S4096x128 .f32) (xt : Vec F S512x128 .f32) (g : Vec F S512x4 .f32)
    (sel : Vec F S4x512 .f32) (w0 : Vec F S128x128 .f32) (w1 : Vec F S128x128 .f32) (wg : Vec F S128x128 .f32)
    (wa : Vec F S128x384 .f32) (bm : Vec F S4x128 .f32) (ax : Vec F S512x128 .f32) :
    out0_B_11 c i a1 h1 a2 h2 a3 h3 a4 h4 a5 h5 a6 h6 a7 h7 a8 h8 a9 h9 a10 h10 a11 h11 a12 h12 a13 h13 hc0 hc1 eps adj x xt g sel w0 w1 wg wa bm ax = tile eps xt g sel w0 w1 wg wa bm ax := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 hc1 eps adj x xt g sel w0 w1 wg wa bm ax)]
  unfold kernelRun0_B
  dsimp only
  sl_unfold_words
  rw [View.canon_unit_zero zero2]
  simp only [View.readAt_eq_ld, h1.read_unread, h4.read_unread, h5.read_unread, h6.read_unread, h7.read_unread, h8.read_unread, h9.read_unread, h10.read_unread, h11.read_unread, h13.read_unread,
    View.ld_unit_zero (S := S512x4) zero2, View.ld_unit_zero (S := S4x512) zero2,
    View.ld_unit_zero (S := S512x128) zero2, View.ld_unit_zero (S := S128x128) zero2, View.ld_unit_zero (S := S128x384) zero2]
  rfl

/-- At the last point it does so too. -/
theorem out_C (c : Dev nD) (i : grid0.Coords)
    (a1 : Memref sig .tc .smem S1 .f32) (h1 : a1.IsWhole)
    (a2 : Memref sig .tc .vmem S512x4096 .f32) (h2 : a2.IsWhole)
    (a3 : Memref sig .tc .vmem S4096x128 .f32) (h3 : a3.IsWhole)
    (a4 : Memref sig .tc .vmem S512x128 .f32) (h4 : a4.IsWhole)
    (a5 : Memref sig .tc .vmem S512x4 .f32) (h5 : a5.IsWhole)
    (a6 : Memref sig .tc .vmem S4x512 .f32) (h6 : a6.IsWhole)
    (a7 : Memref sig .tc .vmem S128x128 .f32) (h7 : a7.IsWhole)
    (a8 : Memref sig .tc .vmem S128x128 .f32) (h8 : a8.IsWhole)
    (a9 : Memref sig .tc .vmem S128x128 .f32) (h9 : a9.IsWhole)
    (a10 : Memref sig .tc .vmem S128x384 .f32) (h10 : a10.IsWhole)
    (a11 : Memref sig .tc .vmem S4x128 .f32) (h11 : a11.IsWhole)
    (a12 : Memref sig .tc .vmem S512x128 .f32) (h12 : a12.IsWhole)
    (a13 : Memref sig .tc .vmem S512x128 .f32) (h13 : a13.IsWhole)
    (hc0 : cond0_0 i) (hc1 : ¬cond0_1 i)
    (eps : Vec F S1 .f32) (adj : Vec F S512x4096 .f32) (x : Vec F S4096x128 .f32) (xt : Vec F S512x128 .f32) (g : Vec F S512x4 .f32)
    (sel : Vec F S4x512 .f32) (w0 : Vec F S128x128 .f32) (w1 : Vec F S128x128 .f32) (wg : Vec F S128x128 .f32)
    (wa : Vec F S128x384 .f32) (bm : Vec F S4x128 .f32) (ax : Vec F S512x128 .f32) :
    out0_C_11 c i a1 h1 a2 h2 a3 h3 a4 h4 a5 h5 a6 h6 a7 h7 a8 h8 a9 h9 a10 h10 a11 h11 a12 h12 a13 h13 hc0 hc1 eps adj x xt g sel w0 w1 wg wa bm ax = tile eps xt g sel w0 w1 wg wa bm ax := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 hc0 hc1 eps adj x xt g sel w0 w1 wg wa bm ax)]
  unfold kernelRun0_C
  dsimp only
  sl_unfold_words
  rw [View.canon_unit_zero zero2]
  simp only [View.readAt_eq_ld, h1.read_unread, h4.read_unread, h5.read_unread, h6.read_unread, h7.read_unread, h8.read_unread, h9.read_unread, h10.read_unread, h11.read_unread, h13.read_unread,
    View.ld_unit_zero (S := S512x4) zero2, View.ld_unit_zero (S := S4x512) zero2,
    View.ld_unit_zero (S := S512x128) zero2, View.ld_unit_zero (S := S128x128) zero2, View.ld_unit_zero (S := S128x384) zero2]
  rfl

variable (m : (ℓ : Loc nD τ sig) → Buf (Elt F) ℓ)

/-- After a point before the last, the scratch buffer holds the product of that point's adjacency block with the node
    features. -/
theorem scratch_eq (c : Dev nD) (t : Fin cfg0.N) (ht : t.val < 8) :
    (outsAt0 m c t.val t.isLt).2 = k0_pay2 (iblk m c 1 t) (iblk m c 2 t) := by
  by_cases h0 : 1 ≤ t.val
  · rw [outsAt0_B m c t h0 ht]
    dsimp only
    exact scratch_B ..
  · rw [outsAt0_A m c t h0 ht]
    dsimp only
    exact scratch_A ..

/-- The point before `t`. -/
abbrev prev (t : Fin cfg0.N) : Fin cfg0.N := ⟨t.val - 1, Nat.lt_of_le_of_lt (Nat.sub_le _ _) t.isLt⟩

/-- The block finished at point `t`. -/
def finished (c : Dev nD) (t : Fin cfg0.N) : Vec F S512x128 .f32 :=
  tile (iblk m c 0 t) (iblk m c 3 t) (iblk m c 4 t) (iblk m c 5 t) (iblk m c 6 t) (iblk m c 7 t) (iblk m c 8 t)
    (iblk m c 9 t) (iblk m c 10 t) (k0_pay2 (iblk m c 1 (prev t)) (iblk m c 2 (prev t)))

/-- Every point from 1 on writes back the finished block, made with the product of the point before. -/
theorem flushed_eq (c : Dev nD) (t : Fin cfg0.N) (h0 : 1 ≤ t.val) :
    (dats m 0 c).flushed 11 t = (cfg0.win 11).cut (grid0.coords t) (finished m c t) := by
  have hN : t.val < 9 := lt_of_lt_of_eq t.isLt N_0
  have hs : (outsAt0 m c (t.val - 1) (Nat.lt_of_le_of_lt (Nat.sub_le _ _) t.isLt)).2
      = k0_pay2 (iblk m c 1 (prev t)) (iblk m c 2 (prev t)) :=
    scratch_eq m c (prev t) (by show t.val - 1 < 8; omega)
  by_cases h1 : t.val < 8
  · rw [Value.flushed11_B m c t h0 h1, hs, out_B]
    rfl
  · rw [Value.flushed11_C m c t h0 h1, hs, out_C]
    rfl

end Cert.KernelIdeal.Block

end
-- ==== Proof.Tile.lean ====
/- The finished row block read element by element over the extended reals.

   The kernel spreads the four gates of a row over the columns by a product with a 0/1 table, so that the gate it multiplies
   by is a sum of four terms of which three are zero. `tile_apply` reads one element of the finished block with those sums
   already replaced by the gates themselves; `product_apply` reads one element of the product with the adjacency block. -/
module

public import proofs.«01_k».proof.Proof.Block
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe
open scoped BigOperators

/-- What the spreading table holds: row `q` is one on the columns `128 q … 128 q + 127` and zero elsewhere. -/
def Spreads (sel : Vec Ideal S4x512 .f32) : Prop :=
  ∀ (q : Fin 4) (n : Fin 512), sel (ix2 q n) = if n.val / 128 = q.val then (1 : EReal) else 0

/-- A row of gates times the spreading table, at a column of the `i`-th group, is the `i`-th gate of the row. -/
theorem gate_spread (g : Vec Ideal S512x4 .f32) (sel : Vec Ideal S4x512 .f32) (hs : Spreads sel) (r : Fin 512)
    (i : Fin 4) (n : Fin 512) (hn : n.val / 128 = i.val) :
    (∑ q : Fin 4, (g (ix2 r q) : EReal) * sel (ix2 q n)) = g (ix2 r i) := by
  rw [Finset.sum_eq_single i]
  · rw [hs i n, if_pos hn, mul_one]
  · intro q _ hq
    rw [hs q n, if_neg (fun h => hq (Fin.ext (h.symm.trans hn))), mul_zero]
  · intro h
    exact absurd (Finset.mem_univ i) h

/-- One element of the finished block: the part made of the node features, the part made of their product with the adjacency
    block, and the biases, each weighted by the gates of the row. -/
theorem tile_apply (eps : Vec Ideal S1 .f32) (xt : Vec Ideal S512x128 .f32) (g : Vec Ideal S512x4 .f32)
    (sel : Vec Ideal S4x512 .f32) (w0 w1 wg : Vec Ideal S128x128 .f32) (wa : Vec Ideal S128x384 .f32)
    (bm : Vec Ideal S4x128 .f32) (ax : Vec Ideal S512x128 .f32) (hs : Spreads sel) (r : Fin 512) (j : Fin 128) :
    (tile eps xt g sel w0 w1 wg wa bm ax (ix2 r j) : EReal)
      = ((∑ k : Fin 128, g (ix2 r 0) * xt (ix2 r k) * w0 (ix2 k j))
          + (∑ k : Fin 128, g (ix2 r 1) * xt (ix2 r k) * w1 (ix2 k j))
          + (∑ k : Fin 128, (1 + eps (ix1 0)) * g (ix2 r 2) * xt (ix2 r k) * wg (ix2 k j)))
        + (g (ix2 r 1) * (∑ k : Fin 128, ax (ix2 r k) * wa (ix2 k ⟨j.val, by omega⟩))
          + g (ix2 r 2) * (∑ k : Fin 128, ax (ix2 r k) * wa (ix2 k ⟨128 + j.val, by omega⟩))
          + g (ix2 r 3) * (∑ k : Fin 128, ax (ix2 r k) * wa (ix2 k ⟨256 + j.val, by omega⟩)))
        + (g (ix2 r 0) * bm (ix2 0 j) + g (ix2 r 1) * bm (ix2 1 j) + g (ix2 r 2) * bm (ix2 2 j)
          + g (ix2 r 3) * bm (ix2 3 j)) := by
  have e0 : ∀ k : Fin 128, (∑ q : Fin 4, (g (ix2 r q) : EReal) * sel (ix2 q ⟨k.val, by omega⟩)) = g (ix2 r 0) :=
    fun k => gate_spread g sel hs r 0 _ (by show k.val / 128 = 0; omega)
  have e1 : ∀ k : Fin 128, (∑ q : Fin 4, (g (ix2 r q) : EReal) * sel (ix2 q ⟨128 + k.val, by omega⟩)) = g (ix2 r 1) :=
    fun k => gate_spread g sel hs r 1 _ (by show (128 + k.val) / 128 = 1; omega)
  have e2 : ∀ k : Fin 128, (∑ q : Fin 4, (g (ix2 r q) : EReal) * sel (ix2 q ⟨256 + k.val, by omega⟩)) = g (ix2 r 2) :=
    fun k => gate_spread g sel hs r 2 _ (by show (256 + k.val) / 128 = 2; omega)
  have e3 : ∀ k : Fin 128, (∑ q : Fin 4, (g (ix2 r q) : EReal) * sel (ix2 q ⟨384 + k.val, by omega⟩)) = g (ix2 r 3) :=
    fun k => gate_spread g sel hs r 3 _ (by show (384 + k.val) / 128 = 3; omega)
  pointwise [tile, k0_pay1, k0_pay9, k0_pay8, k0_pay7, k0_pay6, k0_pay5, k0_pay4, k0_pay3]
  simp only [e0, e1, e2, e3]

/-- One element of the product of an adjacency block with the node features. -/
theorem product_apply (a : Vec Ideal S512x4096 .f32) (x : Vec Ideal S4096x128 .f32) (r : Fin 512) (j : Fin 128) :
    (k0_pay2 a x (ix2 r j) : EReal) = ∑ l : Fin 4096, a (ix2 r l) * x (ix2 l j) := by
  pointwise [k0_pay2]

end Cert.KernelIdeal.Block

end
-- ==== Proof.Host.lean ====
/- What the buffers that the program prepares before its grid hold when the grid starts, element by element.

   The program reshapes the scalar of the third branch, cuts the two-part weights of the second branch into their two halves,
   lays the three weights that meet the adjacency product side by side, stacks the four biases, and writes down the 0/1 table
   that spreads the gates. Each theorem reads one of these at an index as an element of an argument. -/
module

public import proofs.«01_k».proof.Proof.Tile
public import Idealize.ShloMosaic.Lib.StableHlo.ReadAt
public import Idealize.ShloMosaic.Lib.IdealHost

@[expose] public section

set_option maxRecDepth 16384

noncomputable section

namespace Cert.KernelIdeal.Host

open Cert.KernelIdeal Cert.KernelIdeal.Gen Idealize.ShloMosaic Idealize.ShloMosaic.TcCoe

variable {F : FTy → Type} [FloatOps F]
variable (m : (ℓ : Loc nD τ sig) → Buf (Elt F) ℓ)

/-- The one-element vector of the third branch's scalar holds that scalar. -/
theorem eps_at (c : Dev nD) (i : S1.Idx) : V m c main_call0_v0 i = m ((c : Thread nD τ).loc main_arg10) ix0 := by
  unfold V
  after_reads_at

/-- The weights that the second branch applies to the features themselves: the upper half of its weights. -/
theorem upper_at (c : Dev nD) (k j : Fin 128) :
    V m c main_call0_v1 (ix2 k j) = m ((c : Thread nD τ).loc main_arg6) (ix2 ⟨k.val, by omega⟩ j) := by
  unfold V
  after_reads_at

/-- The first third of the columns of the joined weights: the lower half of the second branch's weights. -/
theorem joined_lower_at (c : Dev nD) (k j : Fin 128) :
    V m c main_call0_v3 (ix2 k ⟨j.val, by omega⟩) = m ((c : Thread nD τ).loc main_arg6) (ix2 ⟨128 + k.val, by omega⟩ j) := by
  unfold V
  after_reads_at
  change StableHlo.upto [hostOps0, hostOps0_1].flatten (fun b => m (c, b)) 9 (Proc.tc.devRef main_call0_v2) (ix2 k j) = _
  after_reads_at

/-- The second third of the columns of the joined weights: the third branch's weights. -/
theorem joined_mid_at (c : Dev nD) (k j : Fin 128) :
    V m c main_call0_v3 (ix2 k ⟨128 + j.val, by omega⟩) = m ((c : Thread nD τ).loc main_arg8) (ix2 k j) := by
  unfold V
  after_reads_at
  change StableHlo.upto [hostOps0, hostOps0_1].flatten (fun b => m (c, b)) 9 (Proc.tc.devRef main_arg8) (ix2 k j) = _
  after_reads_simp

/-- The last third of the columns of the joined weights: the fourth branch's weights. -/
theorem joined_last_at (c : Dev nD) (k j : Fin 128) :
    V m c main_call0_v3 (ix2 k ⟨256 + j.val, by omega⟩) = m ((c : Thread nD τ).loc main_arg11) (ix2 k j) := by
  unfold V
  after_reads_at
  have e : (⟨256 + j.val - 128 - 128, by omega⟩ : Fin 128) = j :=
    Fin.ext (by show 256 + j.val - 128 - 128 = j.val; omega)
  rw [dif_neg (by omega), dif_neg (by omega), e]
  change StableHlo.upto [hostOps0, hostOps0_1].flatten (fun b => m (c, b)) 9 (Proc.tc.devRef main_arg11) (ix2 k j) = _
  after_reads_simp

/-- The first row of the stacked biases is the first branch's bias. -/
theorem bias0_at (c : Dev nD) (j : Fin 128) :
    V m c main_v4 (ix2 (0 : Fin 4) j) = m ((c : Thread nD τ).loc main_arg5) (ix1 j) := by
  unfold V
  after_reads_at
  rw [StableHlo.unary_result']
  after_reads_at

/-- The second row of the stacked biases is the second branch's bias. -/
theorem bias1_at (c : Dev nD) (j : Fin 128) :
    V m c main_v4 (ix2 (1 : Fin 4) j) = m ((c : Thread nD τ).loc main_arg7) (ix1 j) := by
  unfold V
  after_reads_at
  rw [StableHlo.unary_result']
  after_reads_at

/-- The third row of the stacked biases is the third branch's bias. -/
theorem bias2_at (c : Dev nD) (j : Fin 128) :
    V m c main_v4 (ix2 (2 : Fin 4) j) = m ((c : Thread nD τ).loc main_arg9) (ix1 j) := by
  unfold V
  after_reads_at
  rw [StableHlo.unary_result']
  after_reads_at

/-- The fourth row of the stacked biases is the fourth branch's bias. -/
theorem bias3_at (c : Dev nD) (j : Fin 128) :
    V m c main_v4 (ix2 (3 : Fin 4) j) = m ((c : Thread nD τ).loc main_arg12) (ix1 j) := by
  unfold V
  after_reads_at
  rw [StableHlo.unary_result']
  after_reads_at

/-- The words of the spreading table in row-major order: the word of one where the column's group is the row, else zero. -/
theorem table_words :
    ∀ n : Fin 2048, lit0 n = if n.val % 512 / 128 = n.val / 512 then 0x3F800000#32 else 0x00000000#32 := by
  decide +kernel

/-- The spreading table holds the words that `table_words` lists, read by row and column. -/
theorem table_at (c : Dev nD) (q : Fin 4) (n : Fin 512) :
    V m c main_call0_cst (ix2 q n)
      = FloatOps.ofBits .f32 (if n.val / 128 = q.val then 0x3F800000#32 else 0x00000000#32) := by
  unfold V
  after_reads_at
  refine congrArg (FloatOps.ofBits .f32) ((table_words _).trans ?_)
  have hr : (S4x512.rowMajor (ix2 q n)).val = q.val * 512 + n.val := Shape.rowMajor_val_two (ix2 q n)
  have hn := n.isLt
  rw [hr, show (q.val * 512 + n.val) % 512 = n.val by omega, show (q.val * 512 + n.val) / 512 = q.val by omega]

/-- Over the extended reals the table spreads the gates. -/
theorem spreads (m : (ℓ : Loc nD τ sig) → Buf (Elt Ideal) ℓ) (c : Dev nD) :
    Block.Spreads (V m c main_call0_cst : Vec Ideal S4x512 .f32) := by
  intro q n
  refine (table_at m c q n).trans ?_
  split
  · exact Ideal.ofBits_one_f32
  · exact Ideal.ofBits_zero_f32

end Cert.KernelIdeal.Host

end
-- ==== Proof.Arith.lean ====
/- The equation behind the kernel, for one row and one column.

   The reference weights each branch by its gate after the branch is computed; the kernel puts the gates inside: it scales the
   features before they meet the weights, adds the parts made of features, of propagated features and of biases separately, and
   adds the three. A factor may be moved into a sum of extended reals when the factor is a real number and all summands but one
   are real numbers, and that is how the two are brought together here: the propagated features, their weights in the fourth
   branch and the first bias may be infinite, all other numbers are real. -/
module

public import Mathlib.Data.EReal.Inv
public import Mathlib.Algebra.BigOperators.Group.Finset.Basic
public import Mathlib.Algebra.BigOperators.Fin
public import Mathlib.Tactic.Abel

@[expose] public section

namespace Cert.Gates

open scoped BigOperators

/-- An extended real that is a real number. -/
def IsReal (a : EReal) : Prop := ∃ r : ℝ, a = (r : EReal)

/-- A sum of two real numbers is one. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A product of two real numbers is one. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- One is a real number. -/
theorem isReal_one : IsReal 1 := ⟨1, EReal.coe_one.symm⟩

/-- A finite sum of real numbers is a real number. -/
theorem IsReal.sum {n : ℕ} (f : Fin n → EReal) (hf : ∀ k, IsReal (f k)) : IsReal (∑ k, f k) := by
  choose r hr using hf
  let toE : ℝ →+ EReal := ⟨⟨Real.toEReal, EReal.coe_zero⟩, EReal.coe_add⟩
  refine ⟨∑ k, r k, ?_⟩
  rw [Finset.sum_congr rfl (fun k _ => hr k)]
  exact (map_sum toE r Finset.univ).symm

/-- A real factor moves into a sum of a real number and any number. -/
theorem mul_add_of_real {a b : EReal} (ha : IsReal a) (hb : IsReal b) (z : EReal) : a * (b + z) = a * b + a * z := by
  obtain ⟨r, rfl⟩ := ha
  obtain ⟨s, rfl⟩ := hb
  induction z using EReal.rec with
  | coe t => rw [← EReal.coe_add, ← EReal.coe_mul, ← EReal.coe_mul, ← EReal.coe_mul, ← EReal.coe_add, mul_add]
  | bot =>
    rw [EReal.add_bot]
    rcases lt_trichotomy r 0 with h | h | h
    · rw [EReal.coe_mul_bot_of_neg h, ← EReal.coe_mul, EReal.coe_add_top]
    · subst h
      rw [EReal.coe_zero, zero_mul, zero_mul, zero_add]
    · rw [EReal.coe_mul_bot_of_pos h, EReal.add_bot]
  | top =>
    rw [EReal.coe_add_top]
    rcases lt_trichotomy r 0 with h | h | h
    · rw [EReal.coe_mul_top_of_neg h, EReal.add_bot]
    · subst h
      rw [EReal.coe_zero, zero_mul, zero_mul, zero_add]
    · rw [EReal.coe_mul_top_of_pos h, ← EReal.coe_mul, EReal.coe_add_top]

/-- A sum of real numbers is scaled term by term. -/
theorem mul_sum_of_real {n : ℕ} {a : EReal} (ha : IsReal a) (f : Fin n → EReal) (hf : ∀ k, IsReal (f k)) :
    a * (∑ k, f k) = ∑ k, a * f k := by
  induction n with
  | zero => rw [Finset.univ_eq_empty, Finset.sum_empty, Finset.sum_empty, mul_zero]
  | succ n ih =>
    rw [Fin.sum_univ_succ, Fin.sum_univ_succ, mul_add_of_real ha (hf 0), ih (fun k => f k.succ) (fun k => hf k.succ)]

/-- What the kernel computes for one element: `x` and `a` the row of the features and of the propagated features, `w0`, `wu`,
    `wl`, `wg`, `wc` the column of the weights (of the second branch the upper and the lower half), `e` the scalar of the third
    branch, `g` the gates and `b` the biases. -/
noncomputable def gatesInside (x a w0 wu wl wg wc : Fin 128 → EReal) (e g0 g1 g2 g3 b0 b1 b2 b3 : EReal) : EReal :=
  ((∑ k, g0 * x k * w0 k) + (∑ k, g1 * x k * wu k) + (∑ k, (1 + e) * g2 * x k * wg k))
    + (g1 * (∑ k, a k * wl k) + g2 * (∑ k, a k * wg k) + g3 * (∑ k, a k * wc k))
    + (g0 * b0 + g1 * b1 + g2 * b2 + g3 * b3)

/-- What the reference computes for one element: the four branches, each with its bias, weighted by the gates. -/
noncomputable def gatesOutside (x a w0 wu wl wg wc : Fin 128 → EReal) (e g0 g1 g2 g3 b0 b1 b2 b3 : EReal) : EReal :=
  g0 * ((∑ k, x k * w0 k) + b0) + g1 * (((∑ k, x k * wu k) + (∑ k, a k * wl k)) + b1)
    + g2 * ((∑ k, ((1 + e) * x k + a k) * wg k) + b2) + g3 * ((∑ k, a k * wc k) + b3)

/-- The kernel's element is the reference's. -/
theorem inside_eq_outside (x a w0 wu wl wg wc : Fin 128 → EReal) (e g0 g1 g2 g3 b0 b1 b2 b3 : EReal)
    (hx : ∀ k, IsReal (x k)) (hw0 : ∀ k, IsReal (w0 k)) (hwu : ∀ k, IsReal (wu k)) (hwg : ∀ k, IsReal (wg k))
    (he : IsReal e) (hg0 : IsReal g0) (hg1 : IsReal g1) (hg2 : IsReal g2) (hg3 : IsReal g3)
    (hb1 : IsReal b1) (hb2 : IsReal b2) (hb3 : IsReal b3) :
    gatesInside x a w0 wu wl wg wc e g0 g1 g2 g3 b0 b1 b2 b3
      = gatesOutside x a w0 wu wl wg wc e g0 g1 g2 g3 b0 b1 b2 b3 := by
  unfold gatesInside gatesOutside
  have r0 : ∀ k, IsReal (x k * w0 k) := fun k => (hx k).mul (hw0 k)
  have ru : ∀ k, IsReal (x k * wu k) := fun k => (hx k).mul (hwu k)
  have rg : ∀ k, IsReal ((1 + e) * x k * wg k) := fun k => ((isReal_one.add he).mul (hx k)).mul (hwg k)
  have s0 : (∑ k, g0 * x k * w0 k) = g0 * ∑ k, x k * w0 k := by
    rw [mul_sum_of_real hg0 _ r0]
    exact Finset.sum_congr rfl fun k _ => mul_assoc _ _ _
  have s1 : (∑ k, g1 * x k * wu k) = g1 * ∑ k, x k * wu k := by
    rw [mul_sum_of_real hg1 _ ru]
    exact Finset.sum_congr rfl fun k _ => mul_assoc _ _ _
  have s2 : (∑ k, (1 + e) * g2 * x k * wg k) = g2 * ∑ k, (1 + e) * x k * wg k := by
    rw [mul_sum_of_real hg2 _ rg]
    refine Finset.sum_congr rfl fun k _ => ?_
    rw [mul_comm (1 + e) g2, mul_assoc g2, mul_assoc g2]
  have s3 : (∑ k, ((1 + e) * x k + a k) * wg k) = (∑ k, (1 + e) * x k * wg k) + ∑ k, a k * wg k := by
    rw [← Finset.sum_add_distrib]
    refine Finset.sum_congr rfl fun k _ => ?_
    rw [mul_comm _ (wg k), mul_add_of_real (hwg k) ((isReal_one.add he).mul (hx k)), mul_comm (wg k), mul_comm (wg k)]
  have h0 := mul_add_of_real hg0 (IsReal.sum _ r0) b0
  have h1 := mul_add_of_real hg1 (IsReal.sum _ ru) (∑ k, a k * wl k)
  have h1' : g1 * (((∑ k, x k * wu k) + (∑ k, a k * wl k)) + b1)
      = g1 * ((∑ k, x k * wu k) + (∑ k, a k * wl k)) + g1 * b1 := by
    rw [add_comm _ b1, mul_add_of_real hg1 hb1, add_comm]
  have h2 := mul_add_of_real hg2 (IsReal.sum _ rg) (∑ k, a k * wg k)
  have h2' : g2 * (((∑ k, (1 + e) * x k * wg k) + (∑ k, a k * wg k)) + b2)
      = g2 * ((∑ k, (1 + e) * x k * wg k) + (∑ k, a k * wg k)) + g2 * b2 := by
    rw [add_comm _ b2, mul_add_of_real hg2 hb2, add_comm]
  have h3 : g3 * ((∑ k, a k * wc k) + b3) = g3 * (∑ k, a k * wc k) + g3 * b3 := by
    rw [add_comm _ b3, mul_add_of_real hg3 hb3, add_comm]
  rw [s0, s1, s2, s3, h0, h1', h1, h2', h2, h3]
  abel

end Cert.Gates

end
-- ==== Proof.Reads.lean ====
/- The blocks that the grid stages, element by element, as elements of the arguments.

   The finished block of a point is made of rows of the features and of the gates at the rows the point finishes, of the product
   of the adjacency rows staged one point earlier with all features, and of the buffers prepared before the grid. -/
module

public import proofs.«01_k».proof.Proof.Host
public import proofs.«01_k».proof.Proof.Arith
public import Idealize.ShloMosaic.Lib.Pipeline.ValueKit

@[expose] public section

set_option maxRecDepth 16384

noncomputable section

namespace Cert.KernelIdeal.Reads

open Cert.KernelIdeal Cert.KernelIdeal.Gen Idealize.ShloMosaic Idealize.ShloMosaic.TcCoe
open Cert.KernelIdeal.Block Cert.Gates
open scoped BigOperators

/-- Which block each moving window holds at a point: the adjacency rows of the point itself (the last block again at the extra
    last point), and the feature, gate and result rows of the point before. -/
theorem idx : ∀ t : Fin cfg0.N,
    (win0_1.index t 0 = min t.val 7 ∧ win0_1.index t 1 = 0)
    ∧ (win0_3.index t 0 = t.val - 1 ∧ win0_3.index t 1 = 0)
    ∧ (win0_4.index t 0 = t.val - 1 ∧ win0_4.index t 1 = 0)
    ∧ (win0_11.index t 0 = t.val - 1 ∧ win0_11.index t 1 = 0) := by
  decide +kernel

/-- The windows that hold a whole buffer stay at its origin. -/
theorem idx_whole : ∀ t : Fin cfg0.N,
    win0_0.index t 0 = 0 ∧ (win0_2.index t 0 = 0 ∧ win0_2.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) := by
  decide +kernel

variable {F : FTy → Type} [FloatOps F]
variable (m : (ℓ : Loc nD τ sig) → Buf (Elt F) ℓ)

/-- The rows of the features that a point finishes. -/
theorem feature_rows (c : Dev nD) (t : Fin cfg0.N) (h0 : 1 ≤ t.val) (ht : t.val < 9) (r : Fin 512) (k : Fin 128) :
    iblk m c 3 t (ix2 r k)
      = m ((c : Thread nD τ).loc main_arg0) (ix2 ⟨(t.val - 1) * 512 + r.val, by omega⟩ k) := by
  blk_ext [iblk, V, (idx t).2.1.1, (idx t).2.1.2]

/-- The rows of the gates that a point finishes. -/
theorem gate_rows (c : Dev nD) (t : Fin cfg0.N) (h0 : 1 ≤ t.val) (ht : t.val < 9) (r : Fin 512) (k : Fin 4) :
    iblk m c 4 t (ix2 r k)
      = m ((c : Thread nD τ).loc main_arg2) (ix2 ⟨(t.val - 1) * 512 + r.val, by omega⟩ k) := by
  blk_ext [iblk, V, (idx t).2.2.1.1, (idx t).2.2.1.2]

/-- The adjacency rows staged at the point before are those of the rows that the point finishes. -/
theorem adjacency_rows (c : Dev nD) (t : Fin cfg0.N) (h0 : 1 ≤ t.val) (ht : t.val < 9) (r : Fin 512) (l : Fin 4096) :
    iblk m c 1 (prev t) (ix2 r l)
      = m ((c : Thread nD τ).loc main_arg1) (ix2 ⟨(t.val - 1) * 512 + r.val, by omega⟩ l) := by
  have h : win0_1.index (prev t) 0 = t.val - 1 := (idx (prev t)).1.1.trans (by show min (t.val - 1) 7 = t.val - 1; omega)
  blk_ext [iblk, V, h, (idx (prev t)).1.2]

/-- All features, at any point. -/
theorem features (c : Dev nD) (t : Fin cfg0.N) (l : Fin 4096) (k : Fin 128) :
    iblk m c 2 t (ix2 l k) = m ((c : Thread nD τ).loc main_arg0) (ix2 l k) := by
  blk_ext [iblk, V, (idx_whole t).2.1.1, (idx_whole t).2.1.2]

/-- The first branch's weights. -/
theorem weights0 (c : Dev nD) (t : Fin cfg0.N) (k j : Fin 128) :
    iblk m c 6 t (ix2 k j) = m ((c : Thread nD τ).loc main_arg4) (ix2 k j) := by
  blk_ext [iblk, V, (idx_whole t).2.2.2.1.1, (idx_whole t).2.2.2.1.2]

/-- The third branch's weights. -/
theorem weights2 (c : Dev nD) (t : Fin cfg0.N) (k j : Fin 128) :
    iblk m c 8 t (ix2 k j) = m ((c : Thread nD τ).loc main_arg8) (ix2 k j) := by
  blk_ext [iblk, V, (idx_whole t).2.2.2.2.2.1.1, (idx_whole t).2.2.2.2.2.1.2]

/-- The one-element vector of the third branch's scalar. -/
theorem scalar_block (c : Dev nD) (t : Fin cfg0.N) : iblk m c 0 t (ix1 (0 : Fin 1)) = m ((c : Thread nD τ).loc main_arg10) ix0 := by
  blk_simp [iblk]
  exact Host.eps_at m c _

/-- The spreading table. -/
theorem table_block (c : Dev nD) (t : Fin cfg0.N) (q : Fin 4) (n : Fin 512) :
    iblk m c 5 t (ix2 q n) = V m c main_call0_cst (ix2 q n) := by
  blk_ext [iblk, (idx_whole t).2.2.1.1, (idx_whole t).2.2.1.2]

/-- The weights that the second branch applies to the features: the upper half of its weights. -/
theorem upper_block (c : Dev nD) (t : Fin cfg0.N) (k j : Fin 128) :
    iblk m c 7 t (ix2 k j) = m ((c : Thread nD τ).loc main_arg6) (ix2 ⟨k.val, by omega⟩ j) := by
  refine Eq.trans ?_ (Host.upper_at m c k j)
  blk_ext [iblk, (idx_whole t).2.2.2.2.1.1, (idx_whole t).2.2.2.2.1.2]

/-- The joined weights, as staged, are the joined weights prepared before the grid. -/
theorem joined_block (c : Dev nD) (t : Fin cfg0.N) (k : Fin 128) (j : Fin 384) :
    iblk m c 9 t (ix2 k j) = V m c main_call0_v3 (ix2 k j) := by
  blk_ext [iblk, (idx_whole t).2.2.2.2.2.2.1.1, (idx_whole t).2.2.2.2.2.2.1.2]

/-- The first third of the joined weights: the lower half of the second branch's weights. -/
theorem lower_block (c : Dev nD) (t : Fin cfg0.N) (k j : Fin 128) :
    iblk m c 9 t (ix2 k (⟨j.val, by omega⟩ : Fin 384))
      = m ((c : Thread nD τ).loc main_arg6) (ix2 ⟨128 + k.val, by omega⟩ j) :=
  (joined_block m c t k _).trans (Host.joined_lower_at m c k j)

/-- The second third of the joined weights: the third branch's weights. -/
theorem mid_block (c : Dev nD) (t : Fin cfg0.N) (k j : Fin 128) :
    iblk m c 9 t (ix2 k (⟨128 + j.val, by omega⟩ : Fin 384)) = m ((c : Thread nD τ).loc main_arg8) (ix2 k j) :=
  (joined_block m c t k _).trans (Host.joined_mid_at m c k j)

/-- The last third of the joined weights: the fourth branch's weights. -/
theorem last_block (c : Dev nD) (t : Fin cfg0.N) (k j : Fin 128) :
    iblk m c 9 t (ix2 k (⟨256 + j.val, by omega⟩ : Fin 384)) = m ((c : Thread nD τ).loc main_arg11) (ix2 k j) :=
  (joined_block m c t k _).trans (Host.joined_last_at m c k j)

/-- The stacked biases, as staged, are the stacked biases prepared before the grid. -/
theorem bias_block (c : Dev nD) (t : Fin cfg0.N) (k : Fin 4) (j : Fin 128) :
    iblk m c 10 t (ix2 k j) = V m c main_v4 (ix2 k j) := by
  blk_ext [iblk, (idx_whole t).2.2.2.2.2.2.2.1, (idx_whole t).2.2.2.2.2.2.2.2]

/-- The first branch's bias. -/
theorem bias0 (c : Dev nD) (t : Fin cfg0.N) (j : Fin 128) :
    iblk m c 10 t (ix2 (0 : Fin 4) j) = m ((c : Thread nD τ).loc main_arg5) (ix1 j) :=
  (bias_block m c t 0 j).trans (Host.bias0_at m c j)

/-- The second branch's bias. -/
theorem bias1 (c : Dev nD) (t : Fin cfg0.N) (j : Fin 128) :
    iblk m c 10 t (ix2 (1 : Fin 4) j) = m ((c : Thread nD τ).loc main_arg7) (ix1 j) :=
  (bias_block m c t 1 j).trans (Host.bias1_at m c j)

/-- The third branch's bias. -/
theorem bias2 (c : Dev nD) (t : Fin cfg0.N) (j : Fin 128) :
    iblk m c 10 t (ix2 (2 : Fin 4) j) = m ((c : Thread nD τ).loc main_arg9) (ix1 j) :=
  (bias_block m c t 2 j).trans (Host.bias2_at m c j)

/-- The fourth branch's bias. -/
theorem bias3 (c : Dev nD) (t : Fin cfg0.N) (j : Fin 128) :
    iblk m c 10 t (ix2 (3 : Fin 4) j) = m ((c : Thread nD τ).loc main_arg12) (ix1 j) :=
  (bias_block m c t 3 j).trans (Host.bias3_at m c j)

end Cert.KernelIdeal.Reads

end
-- ==== Proof.Array.lean ====
/- The kernel's result array after the whole grid: element `(r, j)` is `gatesInside` of row `r` and column `j` of the arguments.
   Every block but the first point's is written back, and the written blocks cover the array. -/
module

public import proofs.«01_k».proof.Proof.Reads

@[expose] public section

set_option maxRecDepth 16384

noncomputable section

namespace Cert.KernelIdeal.Array

open Cert.KernelIdeal Cert.KernelIdeal.Gen Idealize.ShloMosaic Idealize.ShloMosaic.TcCoe
open Cert.KernelIdeal.Block Cert.KernelIdeal.Reads Cert.Gates
open scoped BigOperators

variable (m : (ℓ : Loc nD τ sig) → Buf (Elt Ideal) ℓ)

/-- One element of the result as a function of the arguments. -/
def element (x : Vec Ideal S4096x128 .f32) (adj : Vec Ideal S4096x4096 .f32) (g : Vec Ideal S4096x4 .f32)
    (w0 : Vec Ideal S128x128 .f32) (b0 : Vec Ideal S128 .f32) (w1 : Vec Ideal S256x128 .f32) (b1 : Vec Ideal S128 .f32)
    (wg : Vec Ideal S128x128 .f32) (b2 : Vec Ideal S128 .f32) (e : Vec Ideal S_ .f32) (wc : Vec Ideal S128x128 .f32)
    (b3 : Vec Ideal S128 .f32) (r : Fin 4096) (j : Fin 128) : EReal :=
  gatesInside (fun k => x (ix2 r k)) (fun k => ∑ l : Fin 4096, adj (ix2 r l) * x (ix2 l k))
    (fun k => w0 (ix2 k j)) (fun k => w1 (ix2 ⟨k.val, by omega⟩ j)) (fun k => w1 (ix2 ⟨128 + k.val, by omega⟩ j))
    (fun k => wg (ix2 k j)) (fun k => wc (ix2 k j)) (e ix0)
    (g (ix2 r 0)) (g (ix2 r 1)) (g (ix2 r 2)) (g (ix2 r 3)) (b0 (ix1 j)) (b1 (ix1 j)) (b2 (ix1 j)) (b3 (ix1 j))

/-- One element of the result, the arguments read from the memory that the program starts from. -/
def elementAt (c : Dev nD) (r : Fin 4096) (j : Fin 128) : EReal :=
  element (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) r j

/-- The result array. -/
def result (c : Dev nD) : Vec Ideal S4096x128 .f32 := fun i => elementAt m c (i 0) (i 1)

/-- The finished block of a point holds the result's elements of the rows that the point finishes. -/
theorem finished_apply (c : Dev nD) (t : Fin cfg0.N) (h0 : 1 ≤ t.val) (ht : t.val < 9) (r : Fin 512) (j : Fin 128) :
    (finished m c t (ix2 r j) : EReal) = elementAt m c ⟨(t.val - 1) * 512 + r.val, by omega⟩ j := by
  have hs : Spreads (iblk m c 5 t) := fun q n => (table_block m c t q n).trans (Host.spreads m c q n)
  unfold finished
  rw [tile_apply _ _ _ _ _ _ _ _ _ _ hs]
  simp only [product_apply]
  simp only [feature_rows m c t h0 ht, gate_rows m c t h0 ht, adjacency_rows m c t h0 ht, features, weights0, weights2,
    scalar_block, upper_block, lower_block, mid_block, last_block, bias0, bias1, bias2, bias3]
  rfl

/-- The same at any index of the block. -/
theorem finished_at (c : Dev nD) (t : Fin cfg0.N) (h0 : 1 ≤ t.val) (ht : t.val < 9) (i : S512x128.Idx) :
    (finished m c t i : EReal)
      = elementAt m c ⟨(t.val - 1) * 512 + (i 0).val, by have := (i 0).isLt; change (i 0).val < 512 at this; omega⟩ (i 1) :=
  (congrArg (finished m c t) (eq_ix2 i)).trans (finished_apply m c t h0 ht (i 0) (i 1))

/-- Only points after the first write their block back. -/
theorem one_le_of_flush : ∀ t : Fin cfg0.N, (cfg0.win 11).flush t = true → 1 ≤ t.val := by
  decide +kernel

/-- The result array at an index whose coordinates are `r` and `j`. -/
theorem result_at (c : Dev nD) (r : Fin 4096) (j : Fin 128) (i : S4096x128.Idx) (hr : r.val = (i 0).val)
    (hj : j.val = (i 1).val) : elementAt m c r j = result m c i := by
  obtain rfl : r = i 0 := Fin.ext hr
  obtain rfl : j = i 1 := Fin.ext hj
  rfl

/-- What a point writes back is the result array's block of its rows. -/
theorem written (c : Dev nD) (t : Fin cfg0.N) (hf : (cfg0.win 11).flush t = true) (y : S512x128.Idx) :
    (finished m c t y : EReal) = result m c ((win0_11.blk t).view.emb y) := by
  have ht : t.val < 9 := lt_of_lt_of_eq t.isLt N_0
  refine (finished_at m c t (one_le_of_flush t hf) ht y).trans (result_at m c _ _ _ ?_ ?_)
  · blk_simp [(idx t).2.2.2.1]
  · blk_simp [(idx t).2.2.2.2]

/-- After the grid the result array holds `result`. -/
theorem final (c : Dev nD) : (dats m 0 c).arrAt 11 cfg0.N = result m c := by
  refine (dats m 0 c).arrAt_eq_of_covers 11 _ (by decide +kernel) fun t hf y => ?_
  have h := congrFun (flushed_eq m c t (one_le_of_flush t hf)) y
  blk_simp at h ⊢
  refine h.trans ?_
  exact written m c t hf y

end Cert.KernelIdeal.Array

end
-- ==== Proof.Ref.lean ====
/- The reference read element by element: its result at row `r` and column `j` is the four branches, each with its bias, weighted
   by the gates of the row. -/
module

public import proofs.«01_k».proof.Proof.Gen.ReferenceIdeal.Read
public import proofs.«01_k».proof.Proof.Arith
public import Idealize.ShloMosaic.Lib.Pointwise

@[expose] public section

set_option maxRecDepth 16384

noncomputable section

namespace Cert.ReferenceIdeal.Element

open Cert.ReferenceIdeal Cert.ReferenceIdeal.Gen Cert.ReferenceIdeal.Read Idealize.ShloMosaic Idealize.ShloMosaic.TcCoe
open Cert.Gates
open scoped BigOperators

/-- One element of the reference's result. -/
theorem element (x : Vec Ideal S4096x128 .f32) (adj : Vec Ideal S4096x4096 .f32) (g : Vec Ideal S4096x4 .f32)
    (w0 : Vec Ideal S128x128 .f32) (b0 : Vec Ideal S128 .f32) (w1 : Vec Ideal S256x128 .f32) (b1 : Vec Ideal S128 .f32)
    (wg : Vec Ideal S128x128 .f32) (b2 : Vec Ideal S128 .f32) (e : Vec Ideal S_ .f32) (wc : Vec Ideal S128x128 .f32)
    (b3 : Vec Ideal S128 .f32) (r : Fin 4096) (j : Fin 128) :
    (val_main_v36 (F := Ideal) x adj g w0 b0 w1 b1 wg b2 e wc b3 (ix2 r j) : EReal)
      = gatesOutside (fun k => x (ix2 r k)) (fun k => ∑ l : Fin 4096, adj (ix2 r l) * x (ix2 l k))
          (fun k => w0 (ix2 k j)) (fun k => w1 (ix2 ⟨k.val, by omega⟩ j)) (fun k => w1 (ix2 ⟨128 + k.val, by omega⟩ j))
          (fun k => wg (ix2 k j)) (fun k => wc (ix2 k j)) (e ix0)
          (g (ix2 r 0)) (g (ix2 r 1)) (g (ix2 r 2)) (g (ix2 r 3)) (b0 (ix1 j)) (b1 (ix1 j)) (b2 (ix1 j)) (b3 (ix1 j)) := by
  unfold gatesOutside
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_v9, val_main_v8, val_main_v7, val_main_v6, val_main_v5, val_main_v4, val_main_v3, val_main_v2, val_main_v1, val_main_v0]

end Cert.ReferenceIdeal.Element

end
-- ==== Proof.Pre.lean ====
/- The precondition opened: where it holds, every element of the arguments that it names is a real number. -/
module

public import proofs.«01_k».proof.Defs
public import proofs.«01_k».proof.Proof.Arith
public import Idealize.ShloMosaic.Lib.Pointwise
public import Idealize.ShloMosaic.Lib.IdealHost

@[expose] public section

set_option maxRecDepth 16384

noncomputable section

namespace Cert.Finite

open Idealize.ShloMosaic Idealize.ShloMosaic.TcCoe Cert.Gates Cert.KernelIdeal

/-- The word of positive infinity denotes the greatest extended real. -/
theorem word_top : Ideal.ofBits .f32 0x7F800000#32 = ⊤ := by
  simp [Ideal.ofBits, Ideal.ieee]

/-- A number whose absolute value lies below infinity is real. -/
theorem isReal_of_below {a : Ideal .f32}
    (h : BitVec.ofBool (decide (FloatOps.absf a < Ideal.ofBits .f32 0x7F800000#32)) = 1#1) : IsReal a := by
  rw [word_top] at h
  change BitVec.ofBool (decide (max (a : EReal) (-a) < ⊤)) = 1#1 at h
  have hlt : max (a : EReal) (-a) < ⊤ := by
    by_contra hn
    rw [decide_eq_false hn] at h
    exact absurd h (by decide)
  induction a using EReal.rec with
  | coe r => exact ⟨r, rfl⟩
  | bot => exact absurd ((le_max_right _ _).trans_lt hlt) (by rw [EReal.neg_bot]; exact lt_irrefl _)
  | top => exact absurd ((le_max_left _ _).trans_lt hlt) (lt_irrefl _)

variable [Cert.Pre_finite.Facts] {m : (ℓ : Loc nD τ sig) → Buf (Elt Ideal) ℓ}

/-- The features are real. -/
theorem x_real (h : Cert.Pre_KernelIdeal_finite m) (c : Dev nD) (r : Fin 4096) (k : Fin 128) :
    IsReal (m ((c : Thread nD τ).loc main_arg0) (ix2 r k)) := by
  have hf := (h c).1
  simp only [Cert.Pre_finite.fn, Cert.Pre_finite.fn_part1] at hf
  have hi := congrFun hf (ix2 r k)
  pointwise at hi
  exact isReal_of_below hi

/-- The gates are real. -/
theorem g_real (h : Cert.Pre_KernelIdeal_finite m) (c : Dev nD) (r : Fin 4096) (k : Fin 4) :
    IsReal (m ((c : Thread nD τ).loc main_arg2) (ix2 r k)) := by
  have hf := (h c).2.1
  simp only [Cert.Pre_finite.fn, Cert.Pre_finite.fn_part1] at hf
  have hi := congrFun hf (ix2 r k)
  pointwise at hi
  exact isReal_of_below hi

/-- The first branch's weights are real. -/
theorem w0_real (h : Cert.Pre_KernelIdeal_finite m) (c : Dev nD) (k j : Fin 128) :
    IsReal (m ((c : Thread nD τ).loc main_arg4) (ix2 k j)) := by
  have hf := (h c).2.2.1
  simp only [Cert.Pre_finite.fn, Cert.Pre_finite.fn_part1] at hf
  have hi := congrFun hf (ix2 k j)
  pointwise at hi
  exact isReal_of_below hi

/-- The second branch's weights are real. -/
theorem w1_real (h : Cert.Pre_KernelIdeal_finite m) (c : Dev nD) (k : Fin 256) (j : Fin 128) :
    IsReal (m ((c : Thread nD τ).loc main_arg6) (ix2 k j)) := by
  have hf := (h c).2.2.2.1
  simp only [Cert.Pre_finite.fn, Cert.Pre_finite.fn_part1] at hf
  have hi := congrFun hf (ix2 k j)
  pointwise at hi
  exact isReal_of_below hi

/-- The second branch's bias is real. -/
theorem b1_real (h : Cert.Pre_KernelIdeal_finite m) (c : Dev nD) (j : Fin 128) :
    IsReal (m ((c : Thread nD τ).loc main_arg7) (ix1 j)) := by
  have hf := (h c).2.2.2.2.1
  simp only [Cert.Pre_finite.fn, Cert.Pre_finite.fn_part1] at hf
  have hi := congrFun hf (ix1 j)
  pointwise at hi
  exact isReal_of_below hi

/-- The third branch's weights are real. -/
theorem w2_real (h : Cert.Pre_KernelIdeal_finite m) (c : Dev nD) (k j : Fin 128) :
    IsReal (m ((c : Thread nD τ).loc main_arg8) (ix2 k j)) := by
  have hf := (h c).2.2.2.2.2.1
  simp only [Cert.Pre_finite.fn, Cert.Pre_finite.fn_part1] at hf
  have hi := congrFun hf (ix2 k j)
  pointwise at hi
  exact isReal_of_below hi

/-- The third branch's bias is real. -/
theorem b2_real (h : Cert.Pre_KernelIdeal_finite m) (c : Dev nD) (j : Fin 128) :
    IsReal (m ((c : Thread nD τ).loc main_arg9) (ix1 j)) := by
  have hf := (h c).2.2.2.2.2.2.1
  simp only [Cert.Pre_finite.fn, Cert.Pre_finite.fn_part1] at hf
  have hi := congrFun hf (ix1 j)
  pointwise at hi
  exact isReal_of_below hi

/-- The third branch's scalar is real. -/
theorem e_real (h : Cert.Pre_KernelIdeal_finite m) (c : Dev nD) :
    IsReal (m ((c : Thread nD τ).loc main_arg10) ix0) := by
  have hf := (h c).2.2.2.2.2.2.2.1
  simp only [Cert.Pre_finite.fn, Cert.Pre_finite.fn_part1] at hf
  have hi := congrFun hf ix0
  pointwise at hi
  exact isReal_of_below hi

/-- The fourth branch's bias is real. -/
theorem b3_real (h : Cert.Pre_KernelIdeal_finite m) (c : Dev nD) (j : Fin 128) :
    IsReal (m ((c : Thread nD τ).loc main_arg12) (ix1 j)) := by
  have hf := (h c).2.2.2.2.2.2.2.2
  simp only [Cert.Pre_finite.fn, Cert.Pre_finite.fn_part1] at hf
  have hi := congrFun hf (ix1 j)
  pointwise at hi
  exact isReal_of_below hi

end Cert.Finite

end
-- ==== Proof.Equal.lean ====
/- The equation of the two programs' results: under the precondition, from arguments that agree, the value that the reference's
   run leaves is the array that the kernel's run leaves. -/
module

public import proofs.«01_k».proof.Proof.Array
public import proofs.«01_k».proof.Proof.Ref
public import proofs.«01_k».proof.Proof.Pre

@[expose] public section

set_option maxRecDepth 16384

noncomputable section

namespace Cert.Equal

open Idealize.ShloMosaic Idealize.ShloMosaic.TcCoe Cert.KernelIdeal Cert.Gates Cert.Finite

variable [Cert.Pre_finite.Facts] {m : (ℓ : Loc nD τ sig) → Buf (Elt Ideal) ℓ}

/-- The reference's value at the kernel's arguments is the kernel's result array. -/
theorem reference_eq_result (h : Cert.Pre_KernelIdeal_finite m) (c : Dev nD) :
    Cert.ReferenceIdeal.Read.val_main_v36 (F := Ideal)
      (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      = KernelIdeal.Array.result m c := by
  funext i
  obtain ⟨r, j, rfl⟩ : ∃ (r : Fin 4096) (j : Fin 128), i = ix2 r j := ⟨i 0, i 1, eq_ix2 i⟩
  rw [Cert.ReferenceIdeal.Element.element]
  refine (inside_eq_outside _ _ _ _ _ _ _ _ _ _ _ _ _ _ _ _ (fun k => x_real h c r k) (fun k => w0_real h c k j)
    (fun k => w1_real h c _ j) (fun k => w2_real h c k j) (e_real h c) (g_real h c r 0) (g_real h c r 1)
    (g_real h c r 2) (g_real h c r 3) (b1_real h c j) (b2_real h c j) (b3_real h c j)).symm

end Cert.Equal

end
-- ==== Proof.lean ====
/- The proof of the claims: both printed kernels and the reference run to their end without touching their arguments, and over
   the extended reals the kernel's result is the reference's wherever the precondition holds.

   The mathematics is in the modules imported here: Block and Tile (what one grid point computes), Host and Reads (what it
   computes it from), Array (the kernel's whole result), Ref (the reference's), Arith, Pre and Equal (why the two agree). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.KernelIdeal.Value
public import proofs.«01_k».proof.Proof.Gen.Pre_finite
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged; it has no semaphores. -/
theorem reference_quiescent : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- Wherever the precondition holds, the kernel's result is the reference's. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Array.result m c, ?_, ?_⟩
  · refine (θ_run Cert.KernelIdeal.defs _ _).mono (fun r h c => ?_) (Cert.KernelIdeal.Value.run_blocks m g)
    exact ⟨(h c).1.trans (Cert.KernelIdeal.Array.final m c), (h c).2⟩
  · refine (θ_run Cert.ReferenceIdeal.defs _ _).mono (fun r h c => ?_) (Cert.ReferenceIdeal.Value.run m' g')
    refine ⟨(h c).1.trans ?_, (h c).2⟩
    obtain ⟨a0, a1, a2, _, a4, a5, a6, a7, a8, a9, a10, a11, a12⟩ := hagree c
    refine (Cert.ReferenceIdeal.Read.val_main_v36_eq _ _ _ _ _ _ _ _ _ _ _ _).trans ?_
    rw [a0, a1, a2, a4, a5, a6, a7, a8, a9, a10, a11, a12]
    exact Cert.Equal.reference_eq_result hpre c

/-- All the claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    reference_quiescent,
    fun m g _ => reference_quiescent m g trivial,
    trivial,
    same_result⟩

end Cert.Proof

end
